-- ==== Defs.lean ====
def Pre_Kernel (m : (ℓ : Loc Cert.Kernel.nD Cert.Kernel.τ Cert.Kernel.sig) → Buf (Elt Bits) ℓ) : Prop :=
  True

def Pre_Kernel_in_range [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_in_range [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference_pre_in_range [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_in_range m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v34) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_Kernel_pre_in_range (hKernel := hKernel) (hPre_in_range := hPre_in_range)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ bitexact_Kernel_Reference_pre_in_range (hKernel := hKernel) (hReference := hReference) (hPre_in_range := hPre_in_range)
-- ==== Pre_in_range.lean ====
abbrev S32x2662400 : Shape := ⟨2, ![32, 2662400]⟩
abbrev S2x16x32x100 : Shape := ⟨4, ![2, 16, 32, 100]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S32x2662400 .f32) (main_arg1 : FVec F S2x16x32x100 .f32) (main_arg2 : IVec S1 32) (main_arg3 : IVec S1 32) : IVec S_ 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 32#32
  let main_v2 : IVec S1 32 := broadcastInDim S1 ![] bcast_S_S1 main_c_0
  let main_v3 : IVec S1 1 := cmpi .slt main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_c_2 : IVec S_ 32 := constantI S_ 32 0#32
  let main_v6 : IVec S1 32 := broadcastInDim S1 ![] bcast_S_S1 main_c_2
  let main_v7 : IVec S1 1 := cmpi .sge main_arg3 main_v6
  let main_c_3 : IVec S_ 32 := constantI S_ 32 26#32
  let main_v8 : IVec S1 32 := broadcastInDim S1 ![] bcast_S_S1 main_c_3
  let main_v9 : IVec S1 1 := cmpi .slt main_arg3 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S32x2662400 : Shape := ⟨2, ![32, 2662400]⟩
abbrev S2x16x32x100 : Shape := ⟨4, ![2, 16, 32, 100]⟩
abbrev S1 : Shape := ⟨1, ![1]⟩
abbrev S102400 : Shape := ⟨1, ![102400]⟩
abbrev S_ : Shape := ⟨0, ![]⟩
abbrev S51200 : Shape := ⟨1, ![51200]⟩
abbrev S1x2x16x32x100 : Shape := ⟨5, ![1, 2, 16, 32, 100]⟩

abbrev nBuf : Table → Nat
  | .hbm => 7
  | .shared => 1
  | _ => 0

abbrev bufTy : (tb : Table) → Fin (nBuf tb) → BufTy
  | .hbm, ⟨0, _⟩ => ⟨S32x2662400, .f32⟩
  | .hbm, ⟨1, _⟩ => ⟨S2x16x32x100, .f32⟩
  | .hbm, ⟨2, _⟩ => ⟨S1, .i32⟩
  | .hbm, ⟨3, _⟩ => ⟨S1, .i32⟩
  | .hbm, ⟨4, _⟩ => ⟨S102400, .f32⟩
  | .hbm, ⟨5, _⟩ => ⟨S102400, .f32⟩
  | .hbm, ⟨6, _⟩ => ⟨S1x2x16x32x100, .f32⟩
  | .shared, ⟨0, _⟩ => ⟨S102400, .f32⟩
  | _, _ => ⟨S32x2662400, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scs : Ref sig .scScalar := ⟨.hbm, 4, rfl⟩
abbrev main_v1_scs : Ref sig .scScalar := ⟨.hbm, 5, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S32x2662400 : Shape := ⟨2, ![32, 2662400]⟩
abbrev S2x16x32x100 : Shape := ⟨4, ![2, 16, 32, 100]⟩
abbrev S1 : Shape := ⟨1, ![1]⟩
abbrev S1x1 : Shape := ⟨2, ![1, 1]⟩
abbrev S32x26x2x16x32x100 : Shape := ⟨6, ![32, 26, 2, 16, 32, 100]⟩
abbrev S_ : Shape := ⟨0, ![]⟩
abbrev S1x1x1 : Shape := ⟨3, ![1, 1, 1]⟩
abbrev S1x1x2 : Shape := ⟨3, ![1, 1, 2]⟩
abbrev S1x1x2x16x32x100 : Shape := ⟨6, ![1, 1, 2, 16, 32, 100]⟩
abbrev S1x2x16x32x100 : Shape := ⟨5, ![1, 2, 16, 32, 100]⟩

abbrev nBuf : Space → Nat
  | .hbm => 47
  | .vmem => 0
  | .smem => 0
  | _ => 0

abbrev bufTy : (tb : Table) → Fin (tcTables nBuf tb) → BufTy
  | .hbm, ⟨0, _⟩ => ⟨S32x2662400, .f32⟩
  | .hbm, ⟨1, _⟩ => ⟨S2x16x32x100, .f32⟩
  | .hbm, ⟨2, _⟩ => ⟨S1, .i32⟩
  | .hbm, ⟨3, _⟩ => ⟨S1, .i32⟩
  | .hbm, ⟨4, _⟩ => ⟨S1x1, .i32⟩
  | .hbm, ⟨5, _⟩ => ⟨S1x1, .i32⟩
  | .hbm, ⟨6, _⟩ => ⟨S32x26x2x16x32x100, .f32⟩
  | .hbm, ⟨7, _⟩ => ⟨S_, .i32⟩
  | .hbm, ⟨8, _⟩ => ⟨S1x1, .i32⟩
  | .hbm, ⟨9, _⟩ => ⟨S1x1, .i1⟩
  | .hbm, ⟨10, _⟩ => ⟨S_, .i32⟩
  | .hbm, ⟨11, _⟩ => ⟨S1x1, .i32⟩
  | .hbm, ⟨12, _⟩ => ⟨S1x1, .i32⟩
  | .hbm, ⟨13, _⟩ => ⟨S1x1, .i32⟩
  | .hbm, ⟨14, _⟩ => ⟨S_, .i32⟩
  | .hbm, ⟨15, _⟩ => ⟨S1x1, .i32⟩
  | .hbm, ⟨16, _⟩ => ⟨S1x1, .i1⟩
  | .hbm, ⟨17, _⟩ => ⟨S_, .i32⟩
  | .hbm, ⟨18, _⟩ => ⟨S1x1, .i32⟩
  | .hbm, ⟨19, _⟩ => ⟨S1x1, .i32⟩
  | .hbm, ⟨20, _⟩ => ⟨S1x1, .i32⟩
  | .hbm, ⟨21, _⟩ => ⟨S1x1x1, .i32⟩
  | .hbm, ⟨22, _⟩ => ⟨S1x1x1, .i32⟩
  | .hbm, ⟨23, _⟩ => ⟨S1x1x2, .i32⟩
  | .hbm, ⟨24, _⟩ => ⟨S1x1x2x16x32x100, .f32⟩
  | .hbm, ⟨25, _⟩ => ⟨S32x26x2x16x32x100, .f32⟩
  | .hbm, ⟨26, _⟩ => ⟨S32x2662400, .f32⟩
  | .hbm, ⟨27, _⟩ => ⟨S32x26x2x16x32x100, .f32⟩
  | .hbm, ⟨28, _⟩ => ⟨S_, .i32⟩
  | .hbm, ⟨29, _⟩ => ⟨S1x1, .i32⟩
  | .hbm, ⟨30, _⟩ => ⟨S1x1, .i1⟩
  | .hbm, ⟨31, _⟩ => ⟨S_, .i32⟩
  | .hbm, ⟨32, _⟩ => ⟨S1x1, .i32⟩
  | .hbm, ⟨33, _⟩ => ⟨S1x1, .i32⟩
  | .hbm, ⟨34, _⟩ => ⟨S1x1, .i32⟩
  | .hbm, ⟨35, _⟩ => ⟨S_, .i32⟩
  | .hbm, ⟨36, _⟩ => ⟨S1x1, .i32⟩
  | .hbm, ⟨37, _⟩ => ⟨S1x1, .i1⟩
  | .hbm, ⟨38, _⟩ => ⟨S_, .i32⟩
  | .hbm, ⟨39, _⟩ => ⟨S1x1, .i32⟩
  | .hbm, ⟨40, _⟩ => ⟨S1x1, .i32⟩
  | .hbm, ⟨41, _⟩ => ⟨S1x1, .i32⟩
  | .hbm, ⟨42, _⟩ => ⟨S1x1x1, .i32⟩
  | .hbm, ⟨43, _⟩ => ⟨S1x1x1, .i32⟩
  | .hbm, ⟨44, _⟩ => ⟨S1x1x2, .i32⟩
  | .hbm, ⟨45, _⟩ => ⟨S1x1x2x16x32x100, .f32⟩
  | .hbm, ⟨46, _⟩ => ⟨S1x2x16x32x100, .f32⟩
  | _, _ => ⟨S32x2662400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Run.lean ====
/-
  The kernel's run, over any float values. One scalar-subcore program moves the 102400 elements of `new_data`, laid out flat,
  into its result through the SparseCore's shared memory: each half is copied into the shared scratch on a semaphore of its
  own and, once it has arrived, copied on to the same half of the result. What is proved here (`run_main`): every fair
  execution terminates without a fault, @main's four arguments end unchanged, its result is `new_data` read in row-major
  order at the result's shape, and every semaphore counter is back at zero.

  The three arrays the program touches are each held as two halves: the rectangles at 0 and at 51200, disjoint and together
  the whole (`lo_hi_disjoint`, `lo_hi_cover`). A half of the result after its copy holds the same half of the operand
  (`lo_landed`, `hi_landed`), whatever the scratch and the result held before.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Slot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are apart from one another and from the kernel's scoped ones. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the launch's handshakes, and the counters of the transfers -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The operand, the result and the shared scratch, as the body is handed them. -/
abbrev xW : Memref sig .scScalar .hbm S102400 .f32 := Memref.whole main_v0_scs
abbrev oW : Memref sig .scScalar .hbm S102400 .f32 := Memref.whole main_v1_scs
abbrev shW : Memref sig .scScalar .shared S102400 .f32 := Memref.whole cc0_scratch0

/-- Elements 0 … 51199 and elements 51200 … 102399. -/
abbrev lo : Rect S102400 := Rect.unit (s := S102400) ![0] S51200.size inb_S102400_S51200_0
abbrev hi : Rect S102400 := Rect.unit (s := S102400) ![51200] S51200.size inb_S102400_S51200_51200

/-- The halves, spelt as the body spells them. -/
abbrev xLo : Memref sig .scScalar .hbm S51200 .f32 := xW.slice lo (fun _ => rfl)
abbrev xHi : Memref sig .scScalar .hbm S51200 .f32 := xW.slice hi (fun _ => rfl)
abbrev oLo : Memref sig .scScalar .hbm S51200 .f32 := oW.slice lo (fun _ => rfl)
abbrev oHi : Memref sig .scScalar .hbm S51200 .f32 := oW.slice hi (fun _ => rfl)
abbrev sLo : Memref sig .scScalar .shared S51200 .f32 := shW.slice lo (fun _ => rfl)
abbrev sHi : Memref sig .scScalar .shared S51200 .f32 := shW.slice hi (fun _ => rfl)

/-- @main's arrays on device `d`: its arguments, the flat operand, the flat result, the result. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2
/-- SparseCore `c`'s shared scratch. -/
abbrev shLoc (d : Dev nD) (c : Fin τ.nSC) : Loc nD τ sig := (S d c).loc cc0_scratch0

/-- `new_data` laid out flat: what the kernel is handed and what it hands back. -/
def flat (d : Dev nD) : S102400.Idx → Elt F .f32 := shapeCast S102400 (m (a1Loc d)) shapeCasts_S2x16x32x100_S102400
/-- @main's result: the flat copy at the result's shape. -/
def slot (d : Dev nD) : S1x2x16x32x100.Idx → Elt F .f32 := shapeCast S1x2x16x32x100 (flat m d) shapeCasts_S102400_S1x2x16x32x100

/-! ## The two halves of an array -/

/-- An element of the lower half is below 51200, -/
theorem mem_lo (i : S102400.Idx) : i ∈ lo.set ↔ (i 0).val < 51200 := by
  rw [Rect.mem_set_unit]
  constructor
  · intro h; have := (h 0).2; simpa using this
  · intro h a; fin_cases a; exact ⟨Nat.zero_le _, by simpa using h⟩

/-- one of the upper half is not. -/
theorem mem_hi (i : S102400.Idx) : i ∈ hi.set ↔ 51200 ≤ (i 0).val := by
  rw [Rect.mem_set_unit]
  constructor
  · intro h; have := (h 0).1; simpa using this
  · intro h a; fin_cases a
    exact ⟨by simpa using h, by have := (i 0).isLt; simpa using this⟩

/-- The halves have no element in common, -/
theorem lo_hi_disjoint : Disjoint lo.set hi.set :=
  Finset.disjoint_left.mpr fun i h h' => absurd ((mem_lo i).mp h) (Nat.not_lt.mpr ((mem_hi i).mp h'))

/-- and together they have every element. -/
theorem lo_hi_cover : lo.set ∪ hi.set = Finset.univ :=
  Finset.eq_univ_iff_forall.mpr fun i => Finset.mem_union.mpr <| (Nat.lt_or_ge (i 0).val 51200).imp (mem_lo i).mpr (mem_hi i).mpr

/-- An array held whole is its halves, held apart. -/
theorem whole_eq_halves {ℓ : Loc nD τ sig} {I J : Finset (Idx ℓ)} (hd : Disjoint I J) (hc : I ∪ J = Finset.univ) (f : Buf (Elt F) ℓ) :
    (ℓ ↦{fullShare} f : sProp 𝕄) = iprop((ℓ ↦[I]{fullShare} f) ∗ ℓ ↦[J]{fullShare} f) := by
  have h : (ℓ ↦[I ∪ J]{fullShare} f : sProp 𝕄) ⊣⊢ iprop((ℓ ↦[I]{fullShare} f) ∗ ℓ ↦[J]{fullShare} f) := pointsTo_union hd
  rw [hc] at h
  exact BI.equiv_iff.mp ⟨h.1, h.2⟩

/-- One write over all of a view leaves the written value at each of its elements. -/
theorem writes_whole_emb {κ : Kind} {sp : Space} {s : Shape} {e : EltTy} (v : View sig κ sp s e) (f : v.ty.Contents (Elt F)) (w : s.Idx → Elt F e) (j : s.Idx) :
    v.writes (Elt F) f [⟨Rect.whole s, w⟩] (v.emb j) = _root_.cast (congrArg (Elt F) v.elt_eq.symm) (w j) := by
  have e : (v.slice (Rect.whole s)).emb j = v.emb j := by
    show v.emb ((Rect.whole s).emb j) = v.emb j
    rw [Rect.emb_whole_apply]
  rw [View.writes_singleton, ← e, View.write_emb_of_mem _ _ (Finset.mem_univ _)]

section Halves

variable (d : Dev nD) (c : Fin τ.nSC)

/-- The operand as its halves, -/
theorem x_halves (f : Buf (Elt F) (xLoc d)) :
    (xLoc d ↦{fullShare} f : sProp 𝕄)
      = iprop((xLo.view.loc (S d c) ↦[xLo.view.set]{fullShare} f) ∗ xHi.view.loc (S d c) ↦[xHi.view.set]{fullShare} f) := by
  rw [show xLo.view.set = lo.set from View.set_slice_whole _ _, show xHi.view.set = hi.set from View.set_slice_whole _ _]
  exact whole_eq_halves (ℓ := xLoc d) lo_hi_disjoint lo_hi_cover f

/-- the result, -/
theorem o_halves (f : Buf (Elt F) (oLoc d)) :
    (oLoc d ↦{fullShare} f : sProp 𝕄)
      = iprop((oLo.view.loc (S d c) ↦[oLo.view.set]{fullShare} f) ∗ oHi.view.loc (S d c) ↦[oHi.view.set]{fullShare} f) := by
  rw [show oLo.view.set = lo.set from View.set_slice_whole _ _, show oHi.view.set = hi.set from View.set_slice_whole _ _]
  exact whole_eq_halves (ℓ := oLoc d) lo_hi_disjoint lo_hi_cover f

/-- and the scratch. -/
theorem s_halves (f : Buf (Elt F) (shLoc d c)) :
    (shLoc d c ↦{fullShare} f : sProp 𝕄)
      = iprop((sLo.view.loc (S d c) ↦[sLo.view.set]{fullShare} f) ∗ sHi.view.loc (S d c) ↦[sHi.view.set]{fullShare} f) := by
  rw [show sLo.view.set = lo.set from View.set_slice_whole _ _, show sHi.view.set = hi.set from View.set_slice_whole _ _]
  exact whole_eq_halves (ℓ := shLoc d c) lo_hi_disjoint lo_hi_cover f

/-- The scratch's halves, whatever each holds, are the scratch at something. -/
theorem s_join (f g : Buf (Elt F) (shLoc d c)) :
    iprop((sLo.view.loc (S d c) ↦[sLo.view.set]{fullShare} f) ∗ sHi.view.loc (S d c) ↦[sHi.view.set]{fullShare} g)
      ⊢ (iprop(∃ k, shLoc d c ↦{fullShare} k) : sProp 𝕄) := by
  rw [show sLo.view.set = lo.set from View.set_slice_whole _ _, show sHi.view.set = hi.set from View.set_slice_whole _ _]
  have h : iprop((shLoc d c ↦[lo.set]{fullShare} f) ∗ shLoc d c ↦[hi.set]{fullShare} g)
      ⊢ (shLoc d c ↦[lo.set ∪ hi.set]{fullShare} (hi.set.piecewise g f) : sProp 𝕄) := pointsTo_join lo_hi_disjoint
  rw [lo_hi_cover] at h
  iintro H
  iexists _
  iapply h
  iexact H

/-- What lands in the lower half of the result, by way of the scratch, is the operand's lower half, -/
theorem lo_landed (x : Buf (Elt F) (xLoc d)) (fs : Buf (Elt F) (shLoc d c)) (fo : Buf (Elt F) (oLoc d)) :
    (oLo.view.loc (S d c) ↦[oLo.view.set]{fullShare}
        oLo.view.writes (Elt F) fo [⟨Rect.whole S51200, sLo.view.read (Elt F) (sLo.view.writes (Elt F) fs [⟨Rect.whole S51200, xLo.view.read (Elt F) x⟩])⟩] : sProp 𝕄)
      = (oLo.view.loc (S d c) ↦[oLo.view.set]{fullShare} x) := by
  refine pointsTo_congr fun i hi => ?_
  obtain ⟨j, -, rfl⟩ := Finset.mem_map.mp hi
  rw [writes_whole_emb, View.read_apply, writes_whole_emb]
  rfl

/-- and in the upper half its upper half. -/
theorem hi_landed (x : Buf (Elt F) (xLoc d)) (fs : Buf (Elt F) (shLoc d c)) (fo : Buf (Elt F) (oLoc d)) :
    (oHi.view.loc (S d c) ↦[oHi.view.set]{fullShare}
        oHi.view.writes (Elt F) fo [⟨Rect.whole S51200, sHi.view.read (Elt F) (sHi.view.writes (Elt F) fs [⟨Rect.whole S51200, xHi.view.read (Elt F) x⟩])⟩] : sProp 𝕄)
      = (oHi.view.loc (S d c) ↦[oHi.view.set]{fullShare} x) := by
  refine pointsTo_congr fun i hi => ?_
  obtain ⟨j, -, rfl⟩ := Finset.mem_map.mp hi
  rw [writes_whole_emb, View.read_apply, writes_whole_emb]
  rfl

end Halves

/-! ## What the launch hands over -/

variable [FloatOps F]

abbrev xPts (d : Dev nD) : sProp 𝕄 := xLoc d ↦{fullShare} flat m d
abbrev oPts (d : Dev nD) (f : Buf (Elt F) (oLoc d)) : sProp 𝕄 := oLoc d ↦{fullShare} f

/-- The sequencer is handed the flat operand and the result at anything, and hands both back holding the flat operand. -/
def P : (K (F := F)).Pay (nD := nD) (Val := Elt F) (Name := ℕ) (U := UU) where
  st := fun _ d _ => iprop(xPts m d ∗ ∃ f, oPts d f)
  dn := fun _ d _ => iprop(xPts m d ∗ oPts d (flat m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on SparseCore 0's sequencer -/

section Body

variable (d : Dev nD)

def coordsS (c : Fin (grid0.bound 0)) : grid0.Coords := fun | 0 => c | ⟨_ + 1, h⟩ => absurd h (Nat.not_lt.2 (Nat.le_add_left _ _))

/-- SparseCore 0's sequencer. -/
abbrev S0 (h : 0 < grid0.bound 0) : Thread nD τ := S d ((⟨0, h⟩ : Fin (grid0.bound 0)).castLE hcore0)

/-- The four transfer semaphores by number: the three the kernel asks for, and the one of its last, blocking copy. -/
abbrev dcell (c : Fin τ.nSC) (k : Fin 4) : GSem nD τ sig := (S d c, .dma (⟨k.val, k.isLt⟩ : DmaSem sig))

/-- All four at zero. -/
abbrev cells0 (c : Fin τ.nSC) : sProp 𝕄 :=
  iprop(semVal (S d c, SemLoc.dma cc0_scratch1.sem) 0 ∗ semVal (S d c, SemLoc.dma cc0_scratch2.sem) 0
    ∗ semVal (S d c, SemLoc.dma cc0_scratch3.sem) 0 ∗ semVal (S d c, SemLoc.dma cc0_scoped0.sem) 0)

omit [FloatOps F] in
theorem dcell_mem (c : Fin τ.nSC) (k : Fin 4) : dcell d c k ∈ ownCells (S d c) :=
  mem_ownCells.mpr ⟨rfl, (show ∀ s : DmaSem sig, (SemLoc.dma s : SemLoc sig).isScoped .scScalar = true by decide) _⟩

omit [FloatOps F] in
/-- The sequencer's own semaphores at zero: the four, and the rest. -/
theorem ownSems0_S (c : Fin τ.nSC) :
    (ownSems0 (S d c) : sProp 𝕄)
      = iprop(cells0 d c ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

omit [FloatOps F] in
/-- The sequencer's own buffers: the shared scratch at something, and the rest. -/
theorem ownBufs_S (c : Fin τ.nSC) :
    (ownBufs (S d c) : sProp 𝕄)
      = iprop((∃ f, shLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-- The body, from the halves of the three arrays and the four semaphores at zero: it ends with the operand as it was, both
    halves of the result holding the operand's, and the semaphores at zero again. -/
theorem seq_run (h : 0 < grid0.bound 0) (O : CellTallies nD τ sig (HIx 1)) (W : Waits sig (HIx 1))
    (x : Buf (Elt F) (xLoc d)) (fo : Buf (Elt F) (oLoc d)) (fs : Buf (Elt F) (shLoc d (((⟨0, h⟩ : Fin (grid0.bound 0))).castLE hcore0))) :
    (iprop(Transfers.MayWaits (S0 d h) (none : HIx 1) O
        ∗ (xLo.view.loc (S0 d h) ↦[xLo.view.set]{fullShare} x) ∗ (xHi.view.loc (S0 d h) ↦[xHi.view.set]{fullShare} x)
        ∗ (oLo.view.loc (S0 d h) ↦[oLo.view.set]{fullShare} fo) ∗ (oHi.view.loc (S0 d h) ↦[oHi.view.set]{fullShare} fo)
        ∗ (sLo.view.loc (S0 d h) ↦[sLo.view.set]{fullShare} fs) ∗ (sHi.view.loc (S0 d h) ↦[sHi.view.set]{fullShare} fs)
        ∗ cells0 d (((⟨0, h⟩ : Fin (grid0.bound 0))).castLE hcore0)
        ∗ owes (S0 d h) O W) : sProp 𝕄)
      ⊢ wp frame (wpE (defs₀ (F := F)) 𝒱₀ (S0 d h) none) Set.univ
          (cc0__slot_roundtrip (coordsS ⟨0, h⟩) (Memref.whole main_v0_scs) (Memref.isWhole_whole _) (Memref.whole main_v1_scs) (Memref.isWhole_whole _)
            (Memref.whole cc0_scratch0) (Memref.isWhole_whole _) cc0_scratch1 cc0_scratch2 cc0_scratch3 cc0_scoped0)
          fun _ => iprop((xLo.view.loc (S0 d h) ↦[xLo.view.set]{fullShare} x) ∗ (xHi.view.loc (S0 d h) ↦[xHi.view.set]{fullShare} x)
            ∗ (oLo.view.loc (S0 d h) ↦[oLo.view.set]{fullShare} x) ∗ (oHi.view.loc (S0 d h) ↦[oHi.view.set]{fullShare} x)
            ∗ (∃ f, sLo.view.loc (S0 d h) ↦[sLo.view.set]{fullShare} f) ∗ (∃ f, sHi.view.loc (S0 d h) ↦[sHi.view.set]{fullShare} f)
            ∗ cells0 d (((⟨0, h⟩ : Fin (grid0.bound 0))).castLE hcore0)
            ∗ ∃ W', owes (S0 d h) O W') := by
  iintro ⟨#Hmw, Hx0, Hx1, Ho0, Ho1, Hs0, Hs1, ⟨Hc0, Hc1, Hc2, Hc3⟩, HO⟩
  sl_unfold [cc0__slot_roundtrip]
  sl_exec
  sl_step
  isplitl [Hx0]; · iexact Hx0
  isplitl [Hx1]; · iexact Hx1
  isplitl [Ho0]
  · iapply (Entails.of_eq (lo_landed (F := F) d _ x fs fo)); iexact Ho0
  isplitl [Ho1]
  · iapply (Entails.of_eq (hi_landed (F := F) d _ x fs fo)); iexact Ho1
  isplitl [Hs0]; · iexists _; iexact Hs0
  isplitl [Hs1]; · iexists _; iexact Hs1
  isplitl [Hc0 Hc1 Hc2 Hc3]
  · isplitl [Hc0]; · iexact Hc0
    isplitl [Hc1]; · iexact Hc1
    isplitl [Hc2]; · iexact Hc2
    iexact Hc3
  iexists _; iexact HO

/-- The sequencer's whole part: handed the operand and the result, its scoped buffers and its scoped semaphores, it hands
    them back with the result holding the operand. -/
theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ (xPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0__slot_roundtrip (coordsS ⟨0, h⟩) (Memref.whole main_v0_scs) (Memref.isWhole_whole _) (Memref.whole main_v1_scs) (Memref.isWhole_whole _)
            (Memref.whole cc0_scratch0) (Memref.isWhole_whole _) cc0_scratch1 cc0_scratch2 cc0_scratch3 cc0_scoped0)
          fun _ => iprop((xPts m d ∗ oPts d (flat m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨Hx, %fo, Ho⟩, ⟨⟨⟨%fs, Hs⟩, Hbufs⟩, Htiles⟩, ⟨⟨HC, Hsems⟩, HtileSems⟩, HO⟩
  ihave Hmw := ((K (F := F)).mayWaits_none (thr := S0 d h) hO) $$ Hlv
  -- the three arrays by halves
  ihave Hx' := (Entails.of_eq (x_halves (F := F) d _ _)) $$ Hx
  icases Hx' with ⟨Hx0, Hx1⟩
  ihave Ho' := (Entails.of_eq (o_halves (F := F) d _ _)) $$ Ho
  icases Ho' with ⟨Ho0, Ho1⟩
  ihave Hs' := (Entails.of_eq (s_halves (F := F) d _ _)) $$ Hs
  icases Hs' with ⟨Hs0, Hs1⟩
  iapply (wp_wand_r Idealize.ShloMosaic.frame (wpE (defs₀ (F := F)) 𝒱₀ (S0 d h) none) Set.univ)
  isplitl [Hx0 Hx1 Ho0 Ho1 Hs0 Hs1 HC HO]
  · iapply (seq_run d h O W (flat m d) fo fs)
    isplitr; · iexact Hmw
    isplitl [Hx0]; · iexact Hx0
    isplitl [Hx1]; · iexact Hx1
    isplitl [Ho0]; · iexact Ho0
    isplitl [Ho1]; · iexact Ho1
    isplitl [Hs0]; · iexact Hs0
    isplitl [Hs1]; · iexact Hs1
    isplitl [HC]; · iexact HC
    iexact HO
  iintro %_ ⟨Hx0, Hx1, Ho0, Ho1, ⟨%f0, Hs0⟩, ⟨%f1, Hs1⟩, HC, %W', HO⟩
  isplitl [Hx0 Hx1 Ho0 Ho1]
  · isplitl [Hx0 Hx1]
    · iapply (Entails.of_eq (x_halves (F := F) d _ _).symm)
      isplitl [Hx0] <;> iassumption
    iapply (Entails.of_eq (o_halves (F := F) d _ _).symm)
    isplitl [Ho0] <;> iassumption
  isplitl [Hs0 Hs1 Hbufs Htiles]
  · isplitl [Hs0 Hs1 Hbufs]
    · isplitl [Hs0 Hs1]
      · iapply (s_join (F := F) d _ f0 f1)
        isplitl [Hs0] <;> iassumption
      iexact Hbufs
    iexact Htiles
  isplitl [HC Hsems HtileSems]
  · isplitl [HC Hsems]
    · isplitl [HC] <;> iassumption
    iexact HtileSems
  iexists W'; isplitr
  · ipureintro; intro p _
    rcases p.2 with _ | q
    · exact .inr (.inl rfl)
    · exact .inr (.inr (congrArg some (Subsingleton.elim q 0)))
  · iexact HO

end Body

/-! ## The launch theorem's obligation -/

theorem defs₀_scalar (c : Fin τ.nSC) :
    defs₀ (F := F) (.scScalar c) 0 ()
      = SparseCore.onCore hcore0 (fun c => cc0__slot_roundtrip (coordsS c) (Memref.whole main_v0_scs) (Memref.isWhole_whole _) (Memref.whole main_v1_scs) (Memref.isWhole_whole _)
          (Memref.whole cc0_scratch0) (Memref.isWhole_whole _) cc0_scratch1 cc0_scratch2 cc0_scratch3 cc0_scoped0) ⟨⟩ c := rfl

/-- The one call, on SparseCore 0's sequencer, is `body₀`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d facts h O W hO

/-! ## The launch's ghost element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The reshape before the call and the one after it. -/
abbrev opIn : HloOp τ sig (Elt F) := StableHlo.reshape main_arg1 main_v0 (rfl : (.f32 : EltTy) = .f32) shapeCasts_S2x16x32x100_S102400
abbrev opOut : HloOp τ sig (Elt F) := StableHlo.reshape main_v1 main_v2 (rfl : (.f32 : EltTy) = .f32) shapeCasts_S102400_S1x2x16x32x100

/-- @main's seven arrays. -/
abbrev S7 : Finset (DevRef τ sig) := {a0', a1', a2', a3', x', o', r'}

omit [FloatOps F] in
theorem held_S7 (d : Dev nD) (W : Valuation τ sig (Elt F)) :
    (held (T d) S7 W : sProp 𝕄)
      = iprop((a0Loc d ↦{fullShare} W a0') ∗ (a1Loc d ↦{fullShare} W a1') ∗ (a2Loc d ↦{fullShare} W a2') ∗ (a3Loc d ↦{fullShare} W a3')
          ∗ (xLoc d ↦{fullShare} W x') ∗ (oLoc d ↦{fullShare} W o') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ (a3Loc d ↦{fullShare} W main_arg3)
          ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the arrays hold at the start, after the first reshape, after the call, and at the end. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (flat m d)
def V3 (d : Dev nD) : Valuation τ sig (Elt F) := (opOut (F := F)).result (V2 m d)

theorem unscoped_held (d : Dev nD) : (unscopedBufs d (fun b => m ((SparseCore.T d).loc b)) : sProp 𝕄) = held (T d) S7 (V0 m d) := by
  rw [unscopedBufs_eq, held_S7]; rfl

/-- The first reshape leaves every array but the flat operand as it was, -/
theorem V1_other (d : Dev nD) (b : DevRef τ sig) (h : b ≠ x') : V1 m d b = m (d, b) :=
  (opIn (F := F)).result_of_not_mem (V0 m d) (b := b) (fun hb => h (Finset.mem_singleton.mp hb))
/-- and the flat operand at `new_data`. -/
theorem V1_x (d : Dev nD) : V1 m d x' = flat m d :=
  (StableHlo.reshape_result main_arg1 main_v0 rfl shapeCasts_S2x16x32x100_S102400 _ _ (V0 m d)).trans rfl
/-- The call changes the flat result only, -/
theorem V2_other (d : Dev nD) (b : DevRef τ sig) (h : b ≠ o') : V2 m d b = V1 m d b := Function.update_of_ne h _ _
theorem V2_o (d : Dev nD) : V2 m d o' = flat m d := Function.update_self _ _ _
/-- the second reshape the result only. -/
theorem V3_other (d : Dev nD) (b : DevRef τ sig) (h : b ≠ r') : V3 m d b = V2 m d b :=
  (opOut (F := F)).result_of_not_mem (V2 m d) (b := b) (fun hb => h (Finset.mem_singleton.mp hb))
theorem V3_r (d : Dev nD) : V3 m d r' = slot m d :=
  (StableHlo.reshape_result main_v1 main_v2 rfl shapeCasts_S102400_S1x2x16x32x100 _ _ (V2 m d)).trans (by rw [V2_o]; rfl)

/-- An array none of the three steps writes ends as it started. -/
theorem V3_arg (d : Dev nD) (b : DevRef τ sig) (hx : b ≠ x') (ho : b ≠ o') (hr : b ≠ r') : V3 m d b = m (d, b) := by
  rw [V3_other m d b hr, V2_other m d b ho, V1_other m d b hx]

/-- The arrays after the first reshape, one by one, -/
theorem held_V1 (d : Dev nD) :
    (held (T d) S7 ((opIn (F := F)).result (V0 m d)) : sProp 𝕄)
      = iprop((a0Loc d ↦{fullShare} V1 m d a0') ∗ (a1Loc d ↦{fullShare} V1 m d a1') ∗ (a2Loc d ↦{fullShare} V1 m d a2') ∗ (a3Loc d ↦{fullShare} V1 m d a3')
          ∗ xPts m d ∗ (oLoc d ↦{fullShare} V1 m d o') ∗ rLoc d ↦{fullShare} V1 m d r') := by
  show held (T d) S7 (V1 m d) = _
  rw [held_S7, V1_x]

/-- and at the end. -/
theorem held_V3 (d : Dev nD) :
    (held (T d) S7 ((opOut (F := F)).result (V2 m d)) : sProp 𝕄)
      = iprop((a0Loc d ↦{fullShare} m (a0Loc d)) ∗ (a1Loc d ↦{fullShare} m (a1Loc d)) ∗ (a2Loc d ↦{fullShare} m (a2Loc d)) ∗ (a3Loc d ↦{fullShare} m (a3Loc d))
          ∗ (xLoc d ↦{fullShare} V3 m d x') ∗ (oLoc d ↦{fullShare} V3 m d o') ∗ rLoc d ↦{fullShare} slot m d) := by
  show held (T d) S7 (V3 m d) = _
  rw [held_S7, V3_r, V3_arg m d a0' (by decide) (by decide) (by decide), V3_arg m d a1' (by decide) (by decide) (by decide),
    V3_arg m d a2' (by decide) (by decide) (by decide), V3_arg m d a3' (by decide) (by decide) (by decide)]

/-- What the call takes for its one SparseCore, and what it hands back. -/
theorem st0_eq (d : Dev nD) : (bigSep Finset.univ fun c : Fin ((K (F := F)).nCore 0) => (P m).st 0 d c) = iprop(xPts m d ∗ ∃ f, oPts d f) :=
  bigSep_univ_of_subsingleton (0 : Fin 1)
theorem dn0_eq (d : Dev nD) : (bigSep Finset.univ fun c : Fin ((K (F := F)).nCore 0) => (P m).dn 0 d c) = iprop(xPts m d ∗ oPts d (flat m d)) :=
  bigSep_univ_of_subsingleton (0 : Fin 1)

theorem hIn : (opIn (F := F)).bufs ⊆ S7 := show ({a1', x'} : Finset (DevRef τ sig)) ⊆ S7 by decide
theorem hOut : (opOut (F := F)).bufs ⊆ S7 := show ({o', r'} : Finset (DevRef τ sig)) ⊆ S7 by decide

/-- What @main leaves: its arguments as they were, and its result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d))
    ∗ rLoc d ↦{fullShare} slot m d)

/-- @main on device `d`: the reshape, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S7) hIn (V := V0 m d)) $$ [Hb Hheld]
  · isplitl [Hb] <;> iassumption
  iintro ⟨Hb, Hheld⟩
  rw [wp_ret]; imodintro
  ihave Hh := (Entails.of_eq (held_V1 m d)) $$ Hheld
  icases Hh with ⟨H0, H1, H2, H3, Hx, Ho, Hr⟩
  iapply ((K (F := F)).wp_run (D (F := F)) 𝒱 (EH := EH) (P := P m) κ d 0) $$ [Hst Hx Ho Hb H0 H1 H2 H3 Hr Hts]
  isplitr; · iexact Hctx
  isplitl [Hst]; · iexact Hst
  isplitl [Hx Ho]
  · rw [st0_eq]
    isplitl [Hx]; · iexact Hx
    iexists _; iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S7) hOut (V := V2 m d)) $$ [Hb H0 H1 H2 H3 Hx Ho Hr]
  · isplitl [Hb]; · iexact Hb
    rw [held_S7, V2_o, V2_other m d a0' (by decide), V2_other m d a1' (by decide), V2_other m d a2' (by decide), V2_other m d a3' (by decide),
      V2_other m d x' (by decide), V2_other m d r' (by decide), V1_x]
    isplitl [H0]; · iexact H0
    isplitl [H1]; · iexact H1
    isplitl [H2]; · iexact H2
    isplitl [H3]; · iexact H3
    isplitl [Hx]; · iexact Hx
    isplitl [Ho]; · iexact Ho
    iexact Hr
  iintro ⟨Hb, Hheld⟩
  ihave Hh := (Entails.of_eq (held_V3 m d)) $$ Hheld
  icases Hh with ⟨H0, H1, H2, H3, -, -, Hr⟩
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    iexact Hr
  isplitl [Hb] <;> iassumption

/-! ## The run -/

/-- What holds of a final memory on device `d`: the result, and the arguments unchanged. -/
def fq (d : Dev nD) (s' : Phys nD τ sig (Elt F)) : Prop :=
  s'.mem.mem (rLoc d) = slot m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

omit [FloatOps F] in
/-- An array held whole at the end is what the memory holds there. -/
theorem read_end (s' : Phys nD τ sig (Elt F)) (ℓ : Loc nD τ sig) (f : Buf (Elt F) ℓ) :
    iprop(SI s' ∗ ℓ ↦{fullShare} f) ⊢ (⌜s'.mem.mem ℓ = f⌝ : sProp 𝕄) := by
  iintro H
  ihave H' := (SI_pointsTo_agree (st := s') (ℓ := ℓ) (I := Finset.univ) (q := fullShare) (f := f)) $$ H
  icases H' with %hx
  ipureintro; exact funext fun i => hx i (Finset.mem_univ i)

theorem hfin (d : Dev nD) (s' : Phys nD τ sig (Elt F)) : iprop(FIN m d ∗ SI s') ⊢ (⌜fq m d s'⌝ : sProp 𝕄) := by
  have hr : iprop(FIN m d ∗ SI s') ⊢ (⌜s'.mem.mem (rLoc d) = slot m d⌝ : sProp 𝕄) := by
    iintro ⟨⟨-, -, -, -, H⟩, HSI⟩; iapply (read_end s' (rLoc d) (slot m d)); isplitl [HSI] <;> iassumption
  have h0 : iprop(FIN m d ∗ SI s') ⊢ (⌜s'.mem.mem (a0Loc d) = m (a0Loc d)⌝ : sProp 𝕄) := by
    iintro ⟨⟨H, -⟩, HSI⟩; iapply (read_end s' (a0Loc d) (m (a0Loc d))); isplitl [HSI] <;> iassumption
  have h1 : iprop(FIN m d ∗ SI s') ⊢ (⌜s'.mem.mem (a1Loc d) = m (a1Loc d)⌝ : sProp 𝕄) := by
    iintro ⟨⟨-, H, -⟩, HSI⟩; iapply (read_end s' (a1Loc d) (m (a1Loc d))); isplitl [HSI] <;> iassumption
  have h2 : iprop(FIN m d ∗ SI s') ⊢ (⌜s'.mem.mem (a2Loc d) = m (a2Loc d)⌝ : sProp 𝕄) := by
    iintro ⟨⟨-, -, H, -⟩, HSI⟩; iapply (read_end s' (a2Loc d) (m (a2Loc d))); isplitl [HSI] <;> iassumption
  have h3 : iprop(FIN m d ∗ SI s') ⊢ (⌜s'.mem.mem (a3Loc d) = m (a3Loc d)⌝ : sProp 𝕄) := by
    iintro ⟨⟨-, -, -, H, -⟩, HSI⟩; iapply (read_end s' (a3Loc d) (m (a3Loc d))); isplitl [HSI] <;> iassumption
  have both {φ ψ : Prop} (a : iprop(FIN m d ∗ SI s') ⊢ (⌜φ⌝ : sProp 𝕄)) (b : iprop(FIN m d ∗ SI s') ⊢ (⌜ψ⌝ : sProp 𝕄)) :
      iprop(FIN m d ∗ SI s') ⊢ (⌜φ ∧ ψ⌝ : sProp 𝕄) := (BIClass.and_intro a b).trans pure_and.1
  exact both hr (both h0 (both h1 (both h2 h3)))

/-- The run's postcondition, on every device; and every semaphore counter is zero. -/
def QC : PUnit × MemSt nD τ sig (Elt F) → Prop := fun r =>
  (∀ c : Dev nD, r.2.mem (rLoc c) = slot m c ∧ r.2.mem (a0Loc c) = m (a0Loc c) ∧ r.2.mem (a1Loc c) = m (a1Loc c)
    ∧ r.2.mem (a2Loc c) = m (a2Loc c) ∧ r.2.mem (a3Loc c) = m (a3Loc c)) ∧ r.2.sem = fun _ => 0

/-- From any memory with zero counters, for any float values: every fair execution of the program terminates without a fault,
    with the result at `new_data` in row-major order, the arguments unchanged and every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Slot

end
-- ==== Proof.Ref.lean ====
/-
  The reference's value, over any float values. The reference writes `new_data` into the cache at (page, layer) with a
  scatter, reshapes the cache to its flat rows and back, and reads the same slot with a gather. With the page in [0, 32) and the
  layer in [0, 26) the element the gather reads for result index `k` is the one the scatter wrote from update index `k`
  (`scatter_at_read`), so the result is `new_data` in row-major order at the result's shape (`slot_read_back`): the
  cache's other contents do not enter it.
-/
module

public import proofs.«01_k».proof.Defs
public import proofs.«01_k».proof.Proof.Gen.ReferenceIdeal
public import proofs.«01_k».proof.Proof.Gen.Pre_in_range
public import Idealize.ShloMosaic.Lib.Routing.OpsSet
public import Idealize.ShloMosaic.Lib.Routing.OpsPair
public import Idealize.ShloMosaic.Lib.ReduceAll
public import Idealize.ShloMosaic.Lib.ValueIdxRank6
public import Idealize.ShloMosaic.Lib.Pipeline.Value
public import Idealize.ShloMosaic.Lib.WordCmp

@[expose] public section

noncomputable section

namespace Cert.Proof.Ref

open Cert.ReferenceIdeal Cert.ReferenceIdeal.Gen Idealize.ShloMosaic

/-! ## The precondition, read -/

/-- The only index of a one-element array. -/
abbrev at0 : S1.Idx := fun _ => ⟨0, by decide +revert⟩

/-- The only index of an array of three unit axes. -/
abbrev at000 : S1x1x1.Idx := fun a => match a with | ⟨0, _⟩ => ⟨0, Nat.one_pos⟩ | ⟨1, _⟩ => ⟨0, Nat.one_pos⟩ | ⟨2, _⟩ => ⟨0, Nat.one_pos⟩

theorem eq_at0 (i : S1.Idx) : i = at0 := by
  funext a
  refine Fin.ext ?_
  match a with
  | ⟨0, _⟩ => have h : (i 0).val < 1 := (i 0).isLt; show (i 0).val = 0; omega

/-- A word read signed in `[0, n)`, for `n` below the sign bit, is below `n` as a natural number. -/
theorem toNat_lt_of_signed (x : BitVec 32) (n : Nat) (h0 : 0 ≤ x.toInt) (hn : x.toInt < n) : x.toNat < n := by
  rw [BitVec.toInt_eq_toNat_cond] at h0 hn
  split at h0 <;> split at hn <;> omega

instance : Subsingleton Cert.Pre_in_range.S_.Idx := ⟨fun a b => funext fun i => i.elim0⟩

/-- The precondition bounds the two words: the page is below 32 and the layer below 26. -/
theorem bounds {F : FTy → Type} [FloatOps F] (x0 : FVec F S32x2662400 .f32) (x1 : FVec F S2x16x32x100 .f32) (x2 x3 : IVec S1 32)
    (h : Cert.Pre_in_range.fn (F := F) x0 x1 x2 x3 = fun _ => 1#1) : (x2 at0).toNat < 32 ∧ (x3 at0).toNat < 26 := by
  have e := congrFun h (fun i => i.elim0)
  obtain ⟨e2, e3⟩ := IntOp.andi_eq_one.1 e
  obtain ⟨a, b⟩ := IntOp.andi_eq_one.1 (Host.reduce_andi_all _ _ _ _ _ e2 at0)
  obtain ⟨c, d⟩ := IntOp.andi_eq_one.1 (Host.reduce_andi_all _ _ _ _ _ e3 at0)
  exact ⟨toNat_lt_of_signed _ _ (IntOp.cmpi_sge.1 a) (IntOp.cmpi_slt.1 b), toNat_lt_of_signed _ _ (IntOp.cmpi_sge.1 c) (IntOp.cmpi_slt.1 d)⟩

/-! ## The index vector -/

/-- A word of the index vector: negative words are moved up by the axis's extent `n`, then given two unit axes. -/
def wrapped (n : BitVec 32) (x : IVec S1 32) : IVec S1x1x1 32 :=
  broadcastInDim S1x1x1 ![0, 1] bcast_S1x1_S1x1x1_0_1
    (select (cmpi .slt (broadcastInDim S1x1 ![1] bcast_S1_S1x1_1 x) (broadcastInDim S1x1 ![] bcast_S_S1x1 (constantI S_ 32 0#32)))
      (addi (broadcastInDim S1x1 ![1] bcast_S1_S1x1_1 x) (broadcastInDim S1x1 ![] bcast_S_S1x1 (constantI S_ 32 n)))
      (broadcastInDim S1x1 ![1] bcast_S1_S1x1_1 x))

/-- The scatter's and the gather's index vector: the page's word, then the layer's. -/
def index (x2 x3 : IVec S1 32) : IVec S1x1x2 32 :=
  concatenate S1x1x2 2 [⟨S1x1x1, wrapped 32#32 x2⟩, ⟨S1x1x1, wrapped 26#32 x3⟩] concatenates_S1x1x1_S1x1x1_S1x1x2_d2

/-- A word that is not negative is left as it is. -/
theorem wrapped_apply (n : BitVec 32) (x : IVec S1 32) (h : (x at0).toNat < 2 ^ 31) (j : S1x1x1.Idx) : wrapped n x j = x at0 := by
  have e : ∀ i : S1x1.Idx, broadcastInDim S1x1 ![1] bcast_S1_S1x1_1 x i = x at0 := fun i => congrArg x (eq_at0 _)
  show Scalar.select (IntOp.cmpi .slt (broadcastInDim S1x1 ![1] bcast_S1_S1x1_1 x _) 0#32)
    (IntOp.addi (broadcastInDim S1x1 ![1] bcast_S1_S1x1_1 x _) n) (broadcastInDim S1x1 ![1] bcast_S1_S1x1_1 x _) = _
  rw [e]
  exact Routing.wrap_of_lt _ _ h

/-- The index vector's first component is the page. -/
theorem index_page (x2 x3 : IVec S1 32) (h : (x2 at0).toNat < 2 ^ 31) (j : S1x1x2.Idx) (hj : (j 2).val = 0) : index x2 x3 j = x2 at0 := by
  unfold index
  rw [concatenate_pair_apply_left (s₁ := S1x1x1) (s₂ := S1x1x1) (2 : Fin S1x1x2.rank) _ _ _ j rfl
    at000 (fun b => ?_)]
  · exact wrapped_apply _ _ h _
  · match b with
    | ⟨0, _⟩ => have : (j 0).val < 1 := (j 0).isLt; show 0 = (j 0).val; omega
    | ⟨1, _⟩ => have : (j 1).val < 1 := (j 1).isLt; show 0 = (j 1).val; omega
    | ⟨2, _⟩ => exact hj.symm

/-- Its second component is the layer. -/
theorem index_layer (x2 x3 : IVec S1 32) (h : (x3 at0).toNat < 2 ^ 31) (j : S1x1x2.Idx) (hj : (j 2).val = 1) : index x2 x3 j = x3 at0 := by
  unfold index
  rw [concatenate_pair_apply_right (s₁ := S1x1x1) (s₂ := S1x1x1) (2 : Fin S1x1x2.rank) _ _ _ j rfl rfl
    at000 (fun b hb => ?_)
    ((Nat.zero_add 1).trans hj.symm)]
  · exact wrapped_apply _ _ h _
  · match b with
    | ⟨0, _⟩ => have : (j 0).val < 1 := (j 0).isLt; show 0 = (j 0).val; omega
    | ⟨1, _⟩ => have : (j 1).val < 1 := (j 1).isLt; show 0 = (j 1).val; omega
    | ⟨2, _⟩ => exact absurd rfl hb

/-! ## The scatter read where the gather reads -/

/-- The scatter's and the gather's dimension numbers. -/
abbrev sd : ScatterDims S32x26x2x16x32x100 S1x1x2 S1x1x2x16x32x100 := scatter_S32x26x2x16x32x100_S1x1x2_S1x1x2x16x32x100_2345_01_01_2
abbrev gd : GatherDims S32x26x2x16x32x100 S1x1x2 S1x1x2x16x32x100 := gather_S32x26x2x16x32x100_S1x1x2_S1x1x2x16x32x100_2345_01_n_n_01_2_1121632100

variable (idx : IVec S1x1x2 32) (p l : BitVec 32) (h0 : ∀ j : S1x1x2.Idx, (j 2).val = 0 → idx j = p)
  (h1 : ∀ j : S1x1x2.Idx, (j 2).val = 1 → idx j = l) (k : S1x1x2x16x32x100.Idx)

include h0 in
/-- The gather reads page `p`, the clamp having no effect on a page of the cache. -/
theorem read_page (hp : p.toNat < 32) : (gd.operandIdx k idx 0).val = p.toNat := by
  show min (idx (gd.siIdx k ⟨0, by decide⟩)).toInt.toNat 31 + 0 + 0 = _
  rw [h0 _ rfl, WordCmp.toInt_eq_toNat_of_lt_half (show p.toNat < 2 ^ 31 by omega), Int.toNat_natCast]
  omega

include h1 in
/-- It reads layer `l`. -/
theorem read_layer (hl : l.toNat < 26) : (gd.operandIdx k idx 1).val = l.toNat := by
  show min (idx (gd.siIdx k ⟨1, by decide⟩)).toInt.toNat 25 + 0 + 0 = _
  rw [h1 _ rfl, WordCmp.toInt_eq_toNat_of_lt_half (show l.toNat < 2 ^ 31 by omega), Int.toNat_natCast]
  omega

/-- On the other four axes it reads the result's own coordinates. -/
theorem read_2 : (gd.operandIdx k idx 2).val = (k 2).val := Nat.zero_add _
theorem read_3 : (gd.operandIdx k idx 3).val = (k 3).val := Nat.zero_add _
theorem read_4 : (gd.operandIdx k idx 4).val = (k 4).val := Nat.zero_add _
theorem read_5 : (gd.operandIdx k idx 5).val = (k 5).val := Nat.zero_add _

include h0 in
/-- The scatter writes at page `p`. -/
theorem write_page (hp : p.toNat < 32) : sd.start k idx 0 + (sd.window k 0 : Int) = (p.toNat : Int) := by
  show (idx (sd.siIdx k ⟨0, by decide⟩)).toInt + ((0 : Nat) : Int) = _
  rw [h0 _ rfl, WordCmp.toInt_eq_toNat_of_lt_half (show p.toNat < 2 ^ 31 by omega)]
  omega

include h1 in
/-- At layer `l`. -/
theorem write_layer (hl : l.toNat < 26) : sd.start k idx 1 + (sd.window k 1 : Int) = (l.toNat : Int) := by
  show (idx (sd.siIdx k ⟨1, by decide⟩)).toInt + ((0 : Nat) : Int) = _
  rw [h1 _ rfl, WordCmp.toInt_eq_toNat_of_lt_half (show l.toNat < 2 ^ 31 by omega)]
  omega

/-- On the other four axes it writes at the update's own coordinates. -/
theorem write_2 : sd.start k idx 2 + (sd.window k 2 : Int) = ((k 2).val : Int) := Int.zero_add _
theorem write_3 : sd.start k idx 3 + (sd.window k 3 : Int) = ((k 3).val : Int) := Int.zero_add _
theorem write_4 : sd.start k idx 4 + (sd.window k 4 : Int) = ((k 4).val : Int) := Int.zero_add _
theorem write_5 : sd.start k idx 5 + (sd.window k 5 : Int) = ((k 5).val : Int) := Int.zero_add _

include h0 h1 in
/-- Update `k` lands on the element the gather reads for result index `k`. -/
theorem lands (hp : p.toNat < 32) (hl : l.toNat < 26) : sd.resultIdx? k idx = some (gd.operandIdx k idx) := by
  rw [Routing.resultIdx?_eq_some]
  intro a
  match a with
  | ⟨0, _⟩ => exact (write_page idx p h0 k hp).trans (congrArg Nat.cast (read_page idx p h0 k hp).symm)
  | ⟨1, _⟩ => exact (write_layer idx l h1 k hl).trans (congrArg Nat.cast (read_layer idx l h1 k hl).symm)
  | ⟨2, _⟩ => exact (write_2 idx k).trans (congrArg Nat.cast (read_2 idx k).symm)
  | ⟨3, _⟩ => exact (write_3 idx k).trans (congrArg Nat.cast (read_3 idx k).symm)
  | ⟨4, _⟩ => exact (write_4 idx k).trans (congrArg Nat.cast (read_4 idx k).symm)
  | ⟨5, _⟩ => exact (write_5 idx k).trans (congrArg Nat.cast (read_5 idx k).symm)

/-- No other update lands there. -/
theorem lands_only (k' : S1x1x2x16x32x100.Idx) (h : sd.resultIdx? k' idx = some (gd.operandIdx k idx)) : k' = k := by
  rw [Routing.resultIdx?_eq_some] at h
  funext a
  refine Fin.ext ?_
  match a with
  | ⟨0, _⟩ =>
    have e : (k' 0).val < 1 := (k' 0).isLt
    have e' : (k 0).val < 1 := (k 0).isLt
    show (k' 0).val = (k 0).val
    omega
  | ⟨1, _⟩ =>
    have e : (k' 1).val < 1 := (k' 1).isLt
    have e' : (k 1).val < 1 := (k 1).isLt
    show (k' 1).val = (k 1).val
    omega
  | ⟨2, _⟩ => exact Int.ofNat.inj ((write_2 idx k').symm.trans ((h 2).trans (congrArg Nat.cast (read_2 idx k))))
  | ⟨3, _⟩ => exact Int.ofNat.inj ((write_3 idx k').symm.trans ((h 3).trans (congrArg Nat.cast (read_3 idx k))))
  | ⟨4, _⟩ => exact Int.ofNat.inj ((write_4 idx k').symm.trans ((h 4).trans (congrArg Nat.cast (read_4 idx k))))
  | ⟨5, _⟩ => exact Int.ofNat.inj ((write_5 idx k').symm.trans ((h 5).trans (congrArg Nat.cast (read_5 idx k))))

include h0 h1 in
/-- The scattered cache, read where the gather reads for result index `k`, holds update `k`. -/
theorem scatter_at_read {α : Type} (hp : p.toNat < 32) (hl : l.toNat < 26) (x : S32x26x2x16x32x100.Idx → α) (upd : S1x1x2x16x32x100.Idx → α) :
    Host.scatter sd (fun _ b => b) x idx upd (gd.operandIdx k idx) = upd k :=
  Routing.scatter_set_hit sd x idx upd _ (upd k) (fun k' h => congrArg upd (lands_only idx k k' h)) k (lands idx p l h0 h1 k hp hl)

/-! ## The result -/

/-- `new_data` with two unit axes before its own, then one of them dropped, is `new_data` in row-major order. -/
theorem unit_axes {α : Type} (x : S2x16x32x100.Idx → α) (s : Shape) (hs : S2x16x32x100.ShapeCasts s) (ht : s.ShapeCasts S1x2x16x32x100) :
    shapeCast S1x2x16x32x100 (broadcastInDim S1x1x2x16x32x100 ![2, 3, 4, 5] bcast_S2x16x32x100_S1x1x2x16x32x100_2_3_4_5 x)
        shapeCasts_S1x1x2x16x32x100_S1x2x16x32x100
      = shapeCast S1x2x16x32x100 (shapeCast s x hs) ht := by
  funext j
  have hj : (j 0).val < 1 := (j 0).isLt
  let i : S2x16x32x100.Idx := fun a => match a with | ⟨0, _⟩ => j 1 | ⟨1, _⟩ => j 2 | ⟨2, _⟩ => j 3 | ⟨3, _⟩ => j 4
  let k : S1x1x2x16x32x100.Idx := fun a => match a with
    | ⟨0, _⟩ => j 0 | ⟨1, _⟩ => j 0 | ⟨2, _⟩ => j 1 | ⟨3, _⟩ => j 2 | ⟨4, _⟩ => j 3 | ⟨5, _⟩ => j 4
  have hi : (S2x16x32x100.rowMajor i).val = (S1x2x16x32x100.rowMajor j).val := by
    rw [Shape.rowMajor_val_four, Shape.rowMajor_val_five]
    show (((j 1).val * 16 + (j 2).val) * 32 + (j 3).val) * 100 + (j 4).val
      = ((((j 0).val * 2 + (j 1).val) * 16 + (j 2).val) * 32 + (j 3).val) * 100 + (j 4).val
    omega
  have hk : (S1x1x2x16x32x100.rowMajor k).val = (S1x2x16x32x100.rowMajor j).val := by
    rw [Shape.rowMajor_val_six, Shape.rowMajor_val_five]
    show (((((j 0).val * 1 + (j 0).val) * 2 + (j 1).val) * 16 + (j 2).val) * 32 + (j 3).val) * 100 + (j 4).val
      = ((((j 0).val * 2 + (j 1).val) * 16 + (j 2).val) * 32 + (j 3).val) * 100 + (j 4).val
    omega
  rw [shapeCast_apply _ _ j k hk, shapeCast_apply (shapeCast s x hs) ht j (s.rowMajor.symm ((S1x2x16x32x100.rowMajor j).cast ht))
    (by rw [Equiv.apply_symm_apply]; rfl), shapeCast_apply x hs _ i (by rw [Equiv.apply_symm_apply]; exact hi)]
  show x _ = x i
  refine congrArg x (funext fun a => ?_)
  match a with
  | ⟨0, _⟩ => rfl
  | ⟨1, _⟩ => rfl
  | ⟨2, _⟩ => rfl
  | ⟨3, _⟩ => rfl

/-- The reference's result as a function of its four arguments: the cache with `x1` scattered into it at (page, layer),
    reshaped to flat rows and back, gathered at the same place, without its leading unit axis. -/
def result {α : Type} (x0 : S32x2662400.Idx → α) (x1 : S2x16x32x100.Idx → α) (x2 x3 : IVec S1 32) : S1x2x16x32x100.Idx → α :=
  shapeCast S1x2x16x32x100 (Host.gather gd
    (shapeCast S32x26x2x16x32x100 (shapeCast S32x2662400 (Host.scatter sd (fun _ b => b)
        (shapeCast S32x26x2x16x32x100 x0 shapeCasts_S32x2662400_S32x26x2x16x32x100) (index x2 x3)
        (broadcastInDim S1x1x2x16x32x100 ![2, 3, 4, 5] bcast_S2x16x32x100_S1x1x2x16x32x100_2_3_4_5 x1))
      shapeCasts_S32x26x2x16x32x100_S32x2662400) shapeCasts_S32x2662400_S32x26x2x16x32x100) (index x2 x3))
    shapeCasts_S1x1x2x16x32x100_S1x2x16x32x100

/-- The slot read back is `new_data` in row-major order, whatever the cache held. -/
theorem slot_read_back {α : Type} (x0 : S32x2662400.Idx → α) (x1 : S2x16x32x100.Idx → α) (x2 x3 : IVec S1 32)
    (hp : (x2 at0).toNat < 32) (hl : (x3 at0).toNat < 26) (s : Shape) (hs : S2x16x32x100.ShapeCasts s) (ht : s.ShapeCasts S1x2x16x32x100) :
    result x0 x1 x2 x3 = shapeCast S1x2x16x32x100 (shapeCast s x1 hs) ht := by
  unfold result
  rw [shapeCast_shapeCast, ← unit_axes x1 s hs ht]
  refine congrArg (fun g => shapeCast S1x2x16x32x100 g shapeCasts_S1x1x2x16x32x100_S1x2x16x32x100) (funext fun k => ?_)
  exact scatter_at_read (index x2 x3) (x2 at0) (x3 at0) (index_page x2 x3 (by omega)) (index_layer x2 x3 (by omega)) k hp hl _ _

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Gen.Pre_in_range
public import proofs.«01_k».proof.Proof.Run
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-! ## The frames -/

/-- The kernel runs without a fault from every memory, leaves its arguments as they were and every semaphore at zero. -/
theorem frame_kernel : Cert.quiescent_Kernel := fun m ρ _ =>
  (θ_run Cert.KernelIdeal.defs _ _).mono (fun _ h => ⟨fun c => (h.1 c).2, h.2⟩) (Slot.run_main (F := Bits) m ρ)

/-- The same of the kernel at exact values. -/
theorem frame_kernel_ideal : Cert.quiescent_KernelIdeal := fun m ρ _ =>
  (θ_run Cert.KernelIdeal.defs _ _).mono (fun _ h => ⟨fun c => (h.1 c).2, h.2⟩) (Slot.run_main (F := Ideal) m ρ)

/-- The reference at exact values runs from every memory and leaves its arguments as they were; it has no semaphores. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference as printed. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The value -/

/-- The reference's result is the kernel's, from arguments that agree and satisfy the precondition, over any float
    values: `y0`, `y1`, `y2`, `y3` are the reference's arguments and `x0`, `x1`, `x2`, `x3` the kernel's. -/
theorem reference_value {F : FTy → Type} [FloatOps F] (x0 y0 : FVec F Cert.ReferenceIdeal.S32x2662400 .f32)
    (x1 y1 : FVec F Cert.ReferenceIdeal.S2x16x32x100 .f32) (x2 x3 y2 y3 : IVec Cert.ReferenceIdeal.S1 32)
    (h : Cert.Pre_in_range.fn (F := F) x0 x1 x2 x3 = fun _ => 1#1) (e1 : y1 = x1) (e2 : y2 = x2) (e3 : y3 = x3) :
    Ref.result y0 y1 y2 y3
      = shapeCast Cert.KernelIdeal.S1x2x16x32x100 (shapeCast Cert.KernelIdeal.S102400 x1 Cert.KernelIdeal.Gen.shapeCasts_S2x16x32x100_S102400)
          Cert.KernelIdeal.Gen.shapeCasts_S102400_S1x2x16x32x100 := by
  subst e1 e2 e3
  obtain ⟨hp, hl⟩ := Ref.bounds x0 y1 y2 y3 h
  exact Ref.slot_read_back y0 y1 y2 y3 hp hl _ _ _

section
open Cert.ReferenceIdeal Idealize.ShloMosaic.TcCoe

/-- The run of the reference the exact claim names: its result is `Ref.result` of its arguments. -/
theorem run_reference_ideal {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v34) = Ref.result (α := F .f32) (m ((c.tc : Thread nD τ).loc main_arg0))
          (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2⟩) (Cert.ReferenceIdeal.Value.run (F := F) m ρ)

end

section
open Cert.Reference Idealize.ShloMosaic.TcCoe

/-- The run of the reference as printed, likewise. -/
theorem run_reference {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v34) = Ref.result (α := F .f32) (m ((c.tc : Thread nD τ).loc main_arg0))
          (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2⟩) (Cert.Reference.Value.run (F := F) m ρ)

end

/-- With the page and the layer in range, the kernel and the reference compute the same array at exact values. -/
theorem value_ideal : Cert.algebraic_KernelIdeal_ReferenceIdeal_pre_in_range := by
  intro m ρ m' ρ' hpre hag
  refine ⟨fun c => Slot.slot (F := Ideal) m c, (θ_run Cert.KernelIdeal.defs _ _).mono (fun _ h => h.1) (Slot.run_main (F := Ideal) m ρ),
    (θ_run Cert.ReferenceIdeal.defs _ _).mono (fun _ h c => ⟨(h c).1.trans ?_, (h c).2⟩) (run_reference_ideal (F := Ideal) m' ρ')⟩
  exact reference_value (F := Ideal) (m (Slot.a0Loc c)) _ (m (Slot.a1Loc c)) _ (m (Slot.a2Loc c)) (m (Slot.a3Loc c)) _ _ (hpre c)
    (hag c).2.1 (hag c).2.2.1 (hag c).2.2.2

/-- And the same array, bit for bit, as printed. -/
theorem value_bits : Cert.bitexact_Kernel_Reference_pre_in_range := by
  intro m ρ m' ρ' hpre hag
  refine ⟨fun c => Slot.slot (F := Bits) m c, (θ_run Cert.KernelIdeal.defs _ _).mono (fun _ h => h.1) (Slot.run_main (F := Bits) m ρ),
    (θ_run Cert.Reference.defs _ _).mono (fun _ h c => ⟨(h c).1.trans ?_, (h c).2⟩) (run_reference (F := Bits) m' ρ')⟩
  exact reference_value (F := Bits) (m (Slot.a0Loc c)) _ (m (Slot.a1Loc c)) _ (m (Slot.a2Loc c)) (m (Slot.a3Loc c)) _ _ (hpre c)
    (hag c).2.1 (hag c).2.2.1 (hag c).2.2.2

/-- Everything claimed. -/
theorem claim : Cert.Claim := ⟨Cert.Kernel.Gen.facts, Cert.KernelIdeal.Gen.facts, Cert.ReferenceIdeal.Gen.facts, Cert.Reference.Gen.facts, Cert.Pre_in_range.Gen.facts,
  frame_kernel, fun m ρ _ => frame_kernel m ρ trivial, frame_kernel_ideal, fun m ρ _ => frame_kernel_ideal m ρ trivial,
  frame_reference_ideal, fun m ρ _ => frame_reference_ideal m ρ trivial, frame_reference, trivial, value_ideal, value_bits⟩

end Cert.Proof

end
